-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_Reference (m : (ℓ : Loc Cert.Reference.nD Cert.Reference.τ Cert.Reference.sig) → Buf (Elt Bits) ℓ) : Prop :=
  True

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_Reference [hReference : Cert.Reference.Facts] : Prop :=
  ∀ (m : (ℓ : Loc Cert.Reference.nD Cert.Reference.τ Cert.Reference.sig) → Buf (Elt Bits) ℓ) (g : Dev Cert.Reference.nD → PrngReg), Pre_Reference m →
    θ_run (Cert.Reference.defs (F := Bits)) (onTc (τ := Cert.Reference.τ) (Cert.Reference.main (F := Bits))) ⟨m, fun _ => 0, g⟩ (fun r => (∀ c : Dev Cert.Reference.nD,
      r.2.mem ((c.tc : Thread Cert.Reference.nD Cert.Reference.τ).loc Cert.Reference.main_arg0) = m ((c.tc : Thread Cert.Reference.nD Cert.Reference.τ).loc Cert.Reference.main_arg0)
      ∧ r.2.mem ((c.tc : Thread Cert.Reference.nD Cert.Reference.τ).loc Cert.Reference.main_arg1) = m ((c.tc : Thread Cert.Reference.nD Cert.Reference.τ).loc Cert.Reference.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v0_0)) (v1 : (c : Dev Cert.KernelIdeal.nD) → Buf (Elt Ideal) ((c.tc : Thread Cert.KernelIdeal.nD Cert.KernelIdeal.τ).loc Cert.KernelIdeal.main_v0_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0_0) = v0 c
          ∧ r.2.mem ((c.tc : Thread Cert.KernelIdeal.nD Cert.KernelIdeal.τ).loc Cert.KernelIdeal.main_v0_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v32) = v0 c
          ∧ r.2.mem ((c.tc : Thread Cert.ReferenceIdeal.nD Cert.ReferenceIdeal.τ).loc Cert.ReferenceIdeal.main_v29) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def algebraic_KernelIdeal_ReferenceIdeal_on_quantized_only [hKernelIdeal : Cert.KernelIdeal.Facts] [hReferenceIdeal : Cert.ReferenceIdeal.Facts] [hOn_quantized_only : Cert.On_quantized_only.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v0_0)) (v1 : (c : Dev Cert.KernelIdeal.nD) → Buf (Elt Ideal) ((c.tc : Thread Cert.KernelIdeal.nD Cert.KernelIdeal.τ).loc Cert.KernelIdeal.main_v0_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          (∀ i : (⟨4, ![64, 64, 32, 32]⟩ : Shape).Idx, (Cert.On_quantized_only.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))).1 i = 1#1 → r.2.mem ((c.tc : Thread Cert.KernelIdeal.nD Cert.KernelIdeal.τ).loc Cert.KernelIdeal.main_v0_0) i = v0 c i)
          ∧ (∀ i : (⟨0, ![]⟩ : Shape).Idx, (Cert.On_quantized_only.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))).2 i = 1#1 → r.2.mem ((c.tc : Thread Cert.KernelIdeal.nD Cert.KernelIdeal.τ).loc Cert.KernelIdeal.main_v0_1) i = v1 c i)
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          (∀ i : (⟨4, ![64, 64, 32, 32]⟩ : Shape).Idx, (Cert.On_quantized_only.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))).1 i = 1#1 → r.2.mem ((c.tc : Thread Cert.ReferenceIdeal.nD Cert.ReferenceIdeal.τ).loc Cert.ReferenceIdeal.main_v32) i = v0 c i)
          ∧ (∀ i : (⟨0, ![]⟩ : Shape).Idx, (Cert.On_quantized_only.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))).2 i = 1#1 → r.2.mem ((c.tc : Thread Cert.ReferenceIdeal.nD Cert.ReferenceIdeal.τ).loc Cert.ReferenceIdeal.main_v29) i = v1 c i)
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReference : Cert.Reference.Facts) (hReferenceIdeal : Cert.ReferenceIdeal.Facts) (hPre_finite : Cert.Pre_finite.Facts) (hOn_quantized_only : Cert.On_quantized_only.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_Reference (hReference := hReference)
    ∧ quiescent_ReferenceIdeal (hReferenceIdeal := hReferenceIdeal)
    ∧ quiescent_ReferenceIdeal_pre_finite (hReferenceIdeal := hReferenceIdeal) (hPre_finite := hPre_finite)
    ∧ preserves_Kernel_KernelIdeal
    ∧ algebraic_KernelIdeal_ReferenceIdeal_pre_finite (hKernelIdeal := hKernelIdeal) (hReferenceIdeal := hReferenceIdeal) (hPre_finite := hPre_finite)
    ∧ algebraic_KernelIdeal_ReferenceIdeal_on_quantized_only (hKernelIdeal := hKernelIdeal) (hReferenceIdeal := hReferenceIdeal) (hOn_quantized_only := hOn_quantized_only)
-- ==== On_quantized_only.lean ====
abbrev S64x64x32x32 : Shape := ⟨4, ![64, 64, 32, 32]⟩
abbrev S1024x64 : Shape := ⟨2, ![1024, 64]⟩
abbrev S_ : Shape := ⟨0, ![]⟩

class Facts : Prop where
  bcast_S_S64x64x32x32 : S_.BroadcastsInDim S64x64x32x32 (![] : Fin 0 → Fin S64x64x32x32.rank)

variable [Facts]

def fn {F : FTy → Type} [FloatOps F] (main_arg0 : FVec F S64x64x32x32 .f32) (main_arg1 : FVec F S1024x64 .f32) : IVec S64x64x32x32 1 × IVec S_ 1 :=
  let main_c : IVec S_ 1 := constantI S_ 1 1#1
  let main_v0 : IVec S64x64x32x32 1 := broadcastInDim S64x64x32x32 ![] bcast_S_S64x64x32x32 main_c
  let main_c_0 : IVec S_ 1 := constantI S_ 1 0#1
  (main_v0, main_c_0)
-- ==== Pre_finite.lean ====
abbrev S64x64x32x32 : Shape := ⟨4, ![64, 64, 32, 32]⟩
abbrev S1024x64 : Shape := ⟨2, ![1024, 64]⟩
abbrev S_ : Shape := ⟨0, ![]⟩

class Facts : Prop where
  bcast_S_S64x64x32x32 : S_.BroadcastsInDim S64x64x32x32 (![] : Fin 0 → Fin S64x64x32x32.rank)
  reducesTo_S64x64x32x32_S_d0_1_2_3 : S64x64x32x32.ReducesTo [0, 1, 2, 3] S_
  h_S_ : 0 < S_.numel
  bcast_S_S1024x64 : S_.BroadcastsInDim S1024x64 (![] : Fin 0 → Fin S1024x64.rank)
  reducesTo_S1024x64_S_d0_1 : S1024x64.ReducesTo [0, 1] S_

variable [Facts]

def fn {F : FTy → Type} [FloatOps F] (main_arg0 : FVec F S64x64x32x32 .f32) (main_arg1 : FVec F S1024x64 .f32) : IVec S_ 1 :=
  let main_v0 : FVec F S64x64x32x32 .f32 := Host.absf main_arg0
  let main_cst : FVec F S_ .f32 := constant S_ .f32 0x7F800000#32
  let main_v1 : FVec F S64x64x32x32 .f32 := broadcastInDim S64x64x32x32 ![] bcast_S_S64x64x32x32 main_cst
  let main_v2 : IVec S64x64x32x32 1 := cmpf .olt main_v0 main_v1
  let main_c : IVec S_ 1 := constantI S_ 1 1#1
  let main_v3 : IVec S_ 1 := (fun x v => Host.reduce IntOp.andi x v reducesTo_S64x64x32x32_S_d0_1_2_3 h_S_) main_v2 main_c
  let main_v4 : FVec F S1024x64 .f32 := Host.absf main_arg1
  let main_cst_0 : FVec F S_ .f32 := constant S_ .f32 0x7F800000#32
  let main_v5 : FVec F S1024x64 .f32 := broadcastInDim S1024x64 ![] bcast_S_S1024x64 main_cst_0
  let main_v6 : IVec S1024x64 1 := cmpf .olt main_v4 main_v5
  let main_c_1 : IVec S_ 1 := constantI S_ 1 1#1
  let main_v7 : IVec S_ 1 := (fun x v => Host.reduce IntOp.andi x v reducesTo_S1024x64_S_d0_1 h_S_) main_v6 main_c_1
  let main_v8 : IVec S_ 1 := andi main_v3 main_v7
  main_v8
-- ==== Kernel.lean ====
abbrev S64x64x32x32 : Shape := ⟨4, ![64, 64, 32, 32]⟩
abbrev S1024x64 : Shape := ⟨2, ![1024, 64]⟩
abbrev S64x64x1024 : Shape := ⟨3, ![64, 64, 1024]⟩
abbrev S1x1 : Shape := ⟨2, ![1, 1]⟩
abbrev S_ : Shape := ⟨0, ![]⟩
abbrev S1x64x1024 : Shape := ⟨3, ![1, 64, 1024]⟩
abbrev S64x1024 : Shape := ⟨2, ![64, 1024]⟩
abbrev S1024x1024 : Shape := ⟨2, ![1024, 1024]⟩
abbrev S1024 : Shape := ⟨1, ![1024]⟩
abbrev S1x1024 : Shape := ⟨2, ![1, 1024]⟩
abbrev S1024x1 : Shape := ⟨2, ![1024, 1]⟩
abbrev S1x1x1024 : Shape := ⟨3, ![1, 1, 1024]⟩
abbrev S1 : Shape := ⟨1, ![1]⟩
abbrev S1x1x1 : Shape := ⟨3, ![1, 1, 1]⟩

abbrev nBuf : Space → Nat
  | .hbm => 11
  | .vmem => 6
  | .smem => 0
  | _ => 0

abbrev bufTy : (tb : Table) → Fin (tcTables nBuf tb) → BufTy
  | .hbm, ⟨0, _⟩ => ⟨S64x64x32x32, .f32⟩
  | .hbm, ⟨1, _⟩ => ⟨S1024x64, .f32⟩
  | .hbm, ⟨2, _⟩ => ⟨S64x64x1024, .f32⟩
  | .hbm, ⟨3, _⟩ => ⟨S64x64x1024, .f32⟩
  | .hbm, ⟨4, _⟩ => ⟨S1x1, .f32⟩
  | .hbm, ⟨5, _⟩ => ⟨S_, .f32⟩
  | .hbm, ⟨6, _⟩ => ⟨S_, .f32⟩
  | .hbm, ⟨7, _⟩ => ⟨S_, .f32⟩
  | .hbm, ⟨8, _⟩ => ⟨S_, .f32⟩
  | .hbm, ⟨9, _⟩ => ⟨S_, .f32⟩
  | .hbm, ⟨10, _⟩ => ⟨S64x64x32x32, .f32⟩
  | .local _ .vmem, ⟨0, _⟩ => ⟨S1x64x1024, .f32⟩
  | .local _ .vmem, ⟨1, _⟩ => ⟨S1x64x1024, .f32⟩
  | .local _ .vmem, ⟨2, _⟩ => ⟨S1024x64, .f32⟩
  | .local _ .vmem, ⟨3, _⟩ => ⟨S1x64x1024, .f32⟩
  | .local _ .vmem, ⟨4, _⟩ => ⟨S1x64x1024, .f32⟩
  | .local _ .vmem, ⟨5, _⟩ => ⟨S1x1, .f32⟩
  | _, _ => ⟨S64x64x32x32, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_call0_v0 : Ref sig .tc := ⟨.hbm, 2, rfl⟩
abbrev main_call0_v1_0 : Ref sig .tc := ⟨.hbm, 3, rfl⟩
abbrev main_call0_v1_1 : Ref sig .tc := ⟨.hbm, 4, rfl⟩
abbrev main_call0_v2 : Ref sig .tc := ⟨.hbm, 5, rfl⟩
abbrev main_call0_cst : Ref sig .tc := ⟨.hbm, 6, rfl⟩
abbrev main_call0_v3 : Ref sig .tc := ⟨.hbm, 7, rfl⟩
abbrev main_call0_cst_0 : Ref sig .tc := ⟨.hbm, 8, rfl⟩
abbrev main_v0_1 : Ref sig .tc := ⟨.hbm, 9, rfl⟩
abbrev main_v0_0 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5

abbrev nD : Nat := 1
abbrev τ : Topo := Topo.v7x

variable {F : FTy → Type} [FloatOps F]

abbrev grid0 : Pipeline.Grid := ⟨1, ![64], ![false]⟩

def k0_cond1 (i : grid0.Coords) : BitVec 1 :=
  let arg0 : BitVec 32 := BitVec.ofNat 32 (i 0).val
  let c0_i32 : BitVec 32 := 0#32
  let v40 : BitVec 1 := Scalar.cmpi .eq arg0 c0_i32
  let v41 : BitVec 32 := Scalar.extui v40
  let c0_i32_14 : BitVec 32 := 0#32
  let v42 : BitVec 1 := Scalar.cmpi .ne v41 c0_i32_14
  v42

def k0_cond2 (i : grid0.Coords) : BitVec 1 :=
  let arg0 : BitVec 32 := BitVec.ofNat 32 (i 0).val
  let c0_i32_15 : BitVec 32 := 0#32
  let v43 : BitVec 1 := Scalar.cmpi .ne arg0 c0_i32_15
  let v44 : BitVec 32 := Scalar.extui v43
  let c0_i32_16 : BitVec 32 := 0#32
  let v45 : BitVec 1 := Scalar.cmpi .ne v44 c0_i32_16
  v45

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S1x64x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S1x64x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]
-- ==== Reference.lean ====
abbrev S64x64x32x32 : Shape := ⟨4, ![64, 64, 32, 32]⟩
abbrev S1024x64 : Shape := ⟨2, ![1024, 64]⟩
abbrev S64x32x32x64 : Shape := ⟨4, ![64, 32, 32, 64]⟩
abbrev S65536x64 : Shape := ⟨2, ![65536, 64]⟩
abbrev S_ : Shape := ⟨0, ![]⟩
abbrev S65536 : Shape := ⟨1, ![65536]⟩
abbrev S65536x1 : Shape := ⟨2, ![65536, 1]⟩
abbrev S1024 : Shape := ⟨1, ![1024]⟩
abbrev S1x1024 : Shape := ⟨2, ![1, 1024]⟩
abbrev S65536x1024 : Shape := ⟨2, ![65536, 1024]⟩
abbrev S64x1024 : Shape := ⟨2, ![64, 1024]⟩

abbrev nBuf : Space → Nat
  | .hbm => 52
  | .vmem => 0
  | .smem => 0
  | _ => 0

abbrev bufTy : (tb : Table) → Fin (tcTables nBuf tb) → BufTy
  | .hbm, ⟨0, _⟩ => ⟨S64x64x32x32, .f32⟩
  | .hbm, ⟨1, _⟩ => ⟨S1024x64, .f32⟩
  | .hbm, ⟨2, _⟩ => ⟨S64x32x32x64, .f32⟩
  | .hbm, ⟨3, _⟩ => ⟨S65536x64, .f32⟩
  | .hbm, ⟨4, _⟩ => ⟨S65536x64, .f32⟩
  | .hbm, ⟨5, _⟩ => ⟨S_, .f32⟩
  | .hbm, ⟨6, _⟩ => ⟨S65536, .f32⟩
  | .hbm, ⟨7, _⟩ => ⟨S65536x1, .f32⟩
  | .hbm, ⟨8, _⟩ => ⟨S1024x64, .f32⟩
  | .hbm, ⟨9, _⟩ => ⟨S_, .f32⟩
  | .hbm, ⟨10, _⟩ => ⟨S1024, .f32⟩
  | .hbm, ⟨11, _⟩ => ⟨S1x1024, .f32⟩
  | .hbm, ⟨12, _⟩ => ⟨S65536x1024, .f32⟩
  | .hbm, ⟨13, _⟩ => ⟨S65536x1024, .f32⟩
  | .hbm, ⟨14, _⟩ => ⟨S65536x1024, .f32⟩
  | .hbm, ⟨15, _⟩ => ⟨S64x1024, .f32⟩
  | .hbm, ⟨16, _⟩ => ⟨S65536x1024, .f32⟩
  | .hbm, ⟨17, _⟩ => ⟨S_, .f32⟩
  | .hbm, ⟨18, _⟩ => ⟨S65536x1024, .f32⟩
  | .hbm, ⟨19, _⟩ => ⟨S65536x1024, .f32⟩
  | .hbm, ⟨20, _⟩ => ⟨S65536x1024, .f32⟩
  | .hbm, ⟨21, _⟩ => ⟨S65536x1024, .i32⟩
  | .hbm, ⟨22, _⟩ => ⟨S_, .f32⟩
  | .hbm, ⟨23, _⟩ => ⟨S_, .i32⟩
  | .hbm, ⟨24, _⟩ => ⟨S65536, .f32⟩
  | .hbm, ⟨25, _⟩ => ⟨S65536, .i32⟩
  | .hbm, ⟨26, _⟩ => ⟨S65536x1, .i32⟩
  | .hbm, ⟨27, _⟩ => ⟨S1x1024, .i32⟩
  | .hbm, ⟨28, _⟩ => ⟨S65536x1024, .i32⟩
  | .hbm, ⟨29, _⟩ => ⟨S65536x1024, .i32⟩
  | .hbm, ⟨30, _⟩ => ⟨S65536x1024, .i1⟩
  | .hbm, ⟨31, _⟩ => ⟨S65536x1024, .f32⟩
  | .hbm, ⟨32, _⟩ => ⟨S65536x64, .f32⟩
  | .hbm, ⟨33, _⟩ => ⟨S64x32x32x64, .f32⟩
  | .hbm, ⟨34, _⟩ => ⟨S64x32x32x64, .f32⟩
  | .hbm, ⟨35, _⟩ => ⟨S64x32x32x64, .f32⟩
  | .hbm, ⟨36, _⟩ => ⟨S_, .f32⟩
  | .hbm, ⟨37, _⟩ => ⟨S_, .f32⟩
  | .hbm, ⟨38, _⟩ => ⟨S_, .f32⟩
  | .hbm, ⟨39, _⟩ => ⟨S_, .f32⟩
  | .hbm, ⟨40, _⟩ => ⟨S64x32x32x64, .f32⟩
  | .hbm, ⟨41, _⟩ => ⟨S64x32x32x64, .f32⟩
  | .hbm, ⟨42, _⟩ => ⟨S_, .f32⟩
  | .hbm, ⟨43, _⟩ => ⟨S_, .f32⟩
  | .hbm, ⟨44, _⟩ => ⟨S_, .f32⟩
  | .hbm, ⟨45, _⟩ => ⟨S_, .f32⟩
  | .hbm, ⟨46, _⟩ => ⟨S_, .f32⟩
  | .hbm, ⟨47, _⟩ => ⟨S_, .f32⟩
  | .hbm, ⟨48, _⟩ => ⟨S_, .f32⟩
  | .hbm, ⟨49, _⟩ => ⟨S64x32x32x64, .f32⟩
  | .hbm, ⟨50, _⟩ => ⟨S64x32x32x64, .f32⟩
  | .hbm, ⟨51, _⟩ => ⟨S64x64x32x32, .f32⟩
  | _, _ => ⟨S64x64x32x32, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_cst : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_cst_0 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_cst_1 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_call0_v0 : Ref sig .tc := ⟨.hbm, 21, rfl⟩
abbrev main_call0_cst : Ref sig .tc := ⟨.hbm, 22, rfl⟩
abbrev main_call0_c : Ref sig .tc := ⟨.hbm, 23, rfl⟩
abbrev main_call0_v1_0 : Ref sig .tc := ⟨.hbm, 24, rfl⟩
abbrev main_v16 : Ref sig .tc := ⟨.hbm, 25, rfl⟩
abbrev main_call1_v0 : Ref sig .tc := ⟨.hbm, 26, rfl⟩
abbrev main_call1_v1 : Ref sig .tc := ⟨.hbm, 27, rfl⟩
abbrev main_call1_v2 : Ref sig .tc := ⟨.hbm, 28, rfl⟩
abbrev main_call1_v3 : Ref sig .tc := ⟨.hbm, 29, rfl⟩
abbrev main_call1_v4 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_cst_2 : Ref sig .tc := ⟨.hbm, 36, rfl⟩
abbrev main_v22 : Ref sig .tc := ⟨.hbm, 37, rfl⟩
abbrev main_cst_3 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_cst_4 : Ref sig .tc := ⟨.hbm, 42, rfl⟩
abbrev main_v26 : Ref sig .tc := ⟨.hbm, 43, rfl⟩
abbrev main_cst_5 : Ref sig .tc := ⟨.hbm, 44, rfl⟩
abbrev main_v27 : Ref sig .tc := ⟨.hbm, 45, rfl⟩
abbrev main_cst_6 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩

abbrev nD : Nat := 1
abbrev τ : Topo := Topo.v7x

variable {F : FTy → Type} [FloatOps F]
-- ==== Proof.Nearest.lean ====
/-
  The search for the nearest row, as mathematics: the least index at which a finite family of extended reals is
  smallest, and the two ways the programs find it. The kernel takes the minimum, keeps the index of every entry that
  equals it (a number past the end for every other entry), and takes the least of those. The reference walks the
  (value, index) pairs in order and keeps the lesser pair. Both end at the same index.
-/
module

public import Idealize.ShloMosaic.Lib.Pointwise

@[expose] public section

set_option maxRecDepth 16384

noncomputable section

open Idealize.ShloMosaic

namespace VQ

/-- Some entry of `d` is at most every other. -/
theorem exists_least (d : Fin 1024 → EReal) :
    (Finset.univ.filter fun k => ∀ l, d k ≤ d l).Nonempty := by
  obtain ⟨k, -, hk⟩ := Finset.exists_min_image Finset.univ d ⟨0, Finset.mem_univ _⟩
  exact ⟨k, Finset.mem_filter.2 ⟨Finset.mem_univ _, fun l => hk l (Finset.mem_univ _)⟩⟩

/-- The least index at which `d` takes its smallest value. -/
def nearest (d : Fin 1024 → EReal) : Fin 1024 := (Finset.univ.filter fun k => ∀ l, d k ≤ d l).min' (exists_least d)

theorem nearest_le (d : Fin 1024 → EReal) (l : Fin 1024) : d (nearest d) ≤ d l :=
  (Finset.mem_filter.1 (Finset.min'_mem _ (exists_least d))).2 l

/-- No earlier index attains the smallest value. -/
theorem nearest_first (d : Fin 1024 → EReal) (k : Fin 1024) (hk : d k ≤ d (nearest d)) : nearest d ≤ k :=
  Finset.min'_le _ _ (Finset.mem_filter.2 ⟨Finset.mem_univ _, fun l => hk.trans (nearest_le d l)⟩)

/-- The two properties determine the index. -/
theorem eq_nearest (d : Fin 1024 → EReal) (k : Fin 1024) (h : ∀ l, d k ≤ d l) (h' : ∀ l, d l ≤ d k → k ≤ l) :
    k = nearest d :=
  le_antisymm (h' _ (nearest_le d k)) (nearest_first d k (h _))

/-- The kernel's minimum, started from the largest extended real, is the value at that index. -/
theorem fold_min_eq (d : Fin 1024 → EReal) : Finset.univ.fold min ⊤ d = d (nearest d) := by
  apply le_antisymm
  · exact (Finset.fold_min_le _).2 (.inr ⟨nearest d, Finset.mem_univ _, le_rfl⟩)
  · exact (Finset.le_fold_min _).2 ⟨le_top, fun l _ => nearest_le d l⟩

/-- A small number as a 32-bit word read back as a signed integer is itself. -/
theorem toInt_ofNat (n : ℕ) (h : n ≤ 1024) : (BitVec.ofNat 32 n).toInt = n := by
  rw [BitVec.toInt_eq_toNat_of_lt (by rw [BitVec.toNat_ofNat]; omega), BitVec.toNat_ofNat]
  omega

/-- Signed minimum of words: at most a bound exactly when one of the two is. -/
theorem minsi_toInt (a b : BitVec 32) : (IntOp.minsi a b).toInt = min a.toInt b.toInt := by
  unfold IntOp.minsi
  simp only [BitVec.slt]
  split <;> rename_i h <;> simp only [decide_eq_true_eq] at h <;> omega

/-- A fold of the signed minimum is a fold of the minimum of the integers. -/
theorem fold_minsi_toInt (s : Finset (Fin 1024)) (f : Fin 1024 → BitVec 32) (b : BitVec 32) :
    (s.fold IntOp.minsi b f).toInt = s.fold min b.toInt fun k => (f k).toInt :=
  (Finset.fold_hom (op := IntOp.minsi) (op' := min) (m := BitVec.toInt) minsi_toInt).symm

/-- The kernel's index: the least of the indices whose entry equals the minimum. -/
theorem fold_minsi_eq (d : Fin 1024 → EReal) (v : EReal) (hv : v = d (nearest d)) :
    Finset.univ.fold IntOp.minsi 2147483647#32 (fun k : Fin 1024 => if d k = v then BitVec.ofNat 32 k.val else 1024#32)
      = BitVec.ofNat 32 (nearest d).val := by
  subst hv
  apply BitVec.eq_of_toInt_eq
  have hn := (nearest d).isLt
  have hbig : (2147483647#32).toInt = 2147483647 := by decide
  have hpast : (1024#32).toInt = 1024 := by decide
  rw [fold_minsi_toInt, hbig, toInt_ofNat _ hn.le]
  apply le_antisymm
  · refine (Finset.fold_min_le _).2 (.inr ⟨nearest d, Finset.mem_univ _, ?_⟩)
    rw [if_pos rfl, toInt_ofNat _ hn.le]
  · refine (Finset.le_fold_min _).2 ⟨by omega, fun k _ => ?_⟩
    split
    · rename_i h
      rw [toInt_ofNat _ k.isLt.le]
      exact_mod_cast nearest_first d k h.le
    · rw [hpast]; omega

/-! ## The reference's walk over (value, index) pairs -/

/-- The order in which the walk prefers pairs: the smaller value, and among equal values the smaller index. -/
def Below (p q : EReal × BitVec 32) : Prop := p.1 < q.1 ∨ p.1 = q.1 ∧ p.2.toInt ≤ q.2.toInt

theorem Below.refl (p : EReal × BitVec 32) : Below p p := .inr ⟨rfl, le_rfl⟩

theorem Below.trans {p q r : EReal × BitVec 32} (h : Below p q) (h' : Below q r) : Below p r := by
  rcases h with h | ⟨h, h2⟩ <;> rcases h' with h' | ⟨h', h2'⟩
  · exact .inl (h.trans h')
  · exact .inl (h' ▸ h)
  · exact .inl (h ▸ h')
  · exact .inr ⟨h.trans h', h2.trans h2'⟩

/-- What a step of the walk has to satisfy: it keeps one of its two pairs, and that one is below both. -/
structure Keeps (f : EReal × BitVec 32 → EReal × BitVec 32 → EReal × BitVec 32) : Prop where
  mem : ∀ p q, f p q = p ∨ f p q = q
  left : ∀ p q, Below (f p q) p
  right : ∀ p q, Below (f p q) q

/-- A walk by such a step ends at one of the pairs it met, below all of them. -/
theorem Keeps.foldl {f : EReal × BitVec 32 → EReal × BitVec 32 → EReal × BitVec 32} (hf : Keeps f) :
    ∀ (L : List (EReal × BitVec 32)) (p : EReal × BitVec 32),
      (L.foldl f p = p ∨ L.foldl f p ∈ L) ∧ Below (L.foldl f p) p ∧ ∀ q ∈ L, Below (L.foldl f p) q
  | [], p => ⟨.inl rfl, .refl p, fun _ h => absurd h List.not_mem_nil⟩
  | a :: L, p => by
    obtain ⟨h1, h2, h3⟩ := hf.foldl L (f p a)
    rw [List.foldl_cons]
    refine ⟨?_, h2.trans (hf.left p a), fun q hq => ?_⟩
    · rcases h1 with h1 | h1
      · rw [h1]
        rcases hf.mem p a with h | h
        · exact .inl h
        · rw [h]; exact .inr List.mem_cons_self
      · exact .inr (List.mem_cons_of_mem _ h1)
    · rcases List.mem_cons.1 hq with rfl | hq
      · exact h2.trans (hf.right p q)
      · exact h3 q hq

/-- The reference's index: the walk over the pairs (`d k`, `k`), started from the largest extended real and index
    zero, ends at the least index of the smallest entry. -/
theorem Keeps.foldl_snd {f : EReal × BitVec 32 → EReal × BitVec 32 → EReal × BitVec 32} (hf : Keeps f)
    (d : Fin 1024 → EReal) (L : List (EReal × BitVec 32))
    (hL : ∀ p, p ∈ L ↔ ∃ k : Fin 1024, p = (d k, BitVec.ofNat 32 k.val)) :
    (L.foldl f (⊤, 0#32)).2 = BitVec.ofNat 32 (nearest d).val := by
  obtain ⟨h1, -, h3⟩ := hf.foldl L (⊤, 0#32)
  generalize L.foldl f (⊤, 0#32) = r at h1 h3
  have hb : ∀ k : Fin 1024, Below r (d k, BitVec.ofNat 32 k.val) := fun k => h3 _ ((hL _).2 ⟨k, rfl⟩)
  rcases h1 with h1 | h1
  · -- the start itself: every entry is the largest extended real, and the least index is zero
    have htop : ∀ k, d k = ⊤ := fun k => by
      rcases hb k with h | h
      · exact absurd h (by rw [h1]; exact not_lt_of_ge le_top)
      · exact h.1.symm.trans (by rw [h1])
    rw [h1, ← eq_nearest d 0 (fun l => by rw [htop 0, htop l]) (fun l _ => Fin.zero_le l)]
    rfl
  · obtain ⟨k, hk⟩ := (hL r).1 h1
    rw [hk]
    have hle : ∀ l, d k ≤ d l := fun l => by
      rcases hb l with h | h
      · exact (by rw [hk] at h; exact h.le)
      · exact (by rw [hk] at h; exact h.1.le)
    rw [← eq_nearest d k hle fun l hl => ?_]
    rcases hb l with h | h
    · rw [hk] at h; exact absurd (lt_of_lt_of_le h hl) (lt_irrefl _)
    · rw [hk] at h
      have := h.2
      simp only [toInt_ofNat k.val (by omega), toInt_ofNat l.val (by omega)] at this
      exact_mod_cast this

end VQ

end
-- ==== Proof.Spec.lean ====
/-
  The quantiser as mathematics, away from both programs: the score of a row of the table against a vector, the row
  picked for a vector, and the picked row read by a sum over a row of zeros with a single one.
-/
module

public import proofs.«01_k».proof.Proof.Nearest

@[expose] public section

set_option maxRecDepth 16384

noncomputable section

open Idealize.ShloMosaic

namespace VQ

/-- The score of the table row `e` against the vector `x`: the two squared norms less twice the inner product. The
    programs minimise it over the rows. -/
def score (x e : Fin 64 → EReal) : EReal :=
  (∑ c, x c * x c + ∑ c, e c * e c) - Ideal.ofBits .f32 0x40000000#32 * ∑ c, x c * e c

/-- The number of the table row picked for the vector `x`: the least row of the smallest score. -/
def pick (x : Fin 64 → EReal) (E : Fin 1024 → Fin 64 → EReal) : Fin 1024 := nearest fun k => score x (E k)

/-- Two row numbers as 32-bit words compare equal exactly when they are equal. -/
theorem cmpi_eq_ofNat (a b : Fin 1024) :
    IntOp.cmpi .eq (BitVec.ofNat 32 a.val) (BitVec.ofNat 32 b.val) = if a = b then 1#1 else 0#1 := by
  have h : (BitVec.ofNat 32 a.val = BitVec.ofNat 32 b.val) ↔ a = b := by
    refine ⟨fun h => ?_, fun h => by rw [h]⟩
    have := congrArg BitVec.toInt h
    rw [toInt_ofNat _ a.isLt.le, toInt_ofNat _ b.isLt.le] at this
    exact Fin.ext (by exact_mod_cast this)
  show BitVec.ofBool (BitVec.ofNat 32 a.val == BitVec.ofNat 32 b.val) = _
  by_cases hab : a = b
  · rw [if_pos hab, beq_iff_eq.2 (h.2 hab)]; rfl
  · rw [if_neg hab, beq_eq_false_iff_ne.2 (mt h.1 hab)]; rfl

/-- The indicator as the kernel writes it, a comparison widened and read as a signed number. -/
theorem signed_indicator (a b : Fin 1024) :
    FloatOps.sitofp (F := Ideal) .f32 (BitVec.setWidth 32 (IntOp.cmpi .eq (BitVec.ofNat 32 a.val) (BitVec.ofNat 32 b.val)))
      = if a = b then (1 : EReal) else 0 := by
  rw [cmpi_eq_ofNat]
  split
  · show (((BitVec.setWidth 32 1#1).toInt : ℝ) : EReal) = 1
    norm_num
  · show (((BitVec.setWidth 32 0#1).toInt : ℝ) : EReal) = 0
    norm_num

/-- The indicator as the reference writes it, a comparison read as an unsigned number. -/
theorem unsigned_indicator (a b : Fin 1024) :
    FloatOps.uitofp (F := Ideal) .f32 (IntOp.cmpi .eq (BitVec.ofNat 32 a.val) (BitVec.ofNat 32 b.val))
      = if a = b then (1 : EReal) else 0 := by
  rw [cmpi_eq_ofNat]
  split
  · show (((1#1).toNat : ℝ) : EReal) = 1
    norm_num
  · show (((0#1).toNat : ℝ) : EReal) = 0
    norm_num

/-- A sum against an indicator is the entry it indicates, an infinite one too. -/
theorem sum_mul_indicator (v : Fin 1024 → EReal) (n : Fin 1024) :
    ∑ k, v k * (if k = n then (1 : EReal) else 0) = v n := by
  rw [Finset.sum_eq_single n]
  · rw [if_pos rfl, mul_one]
  · intro k _ hk; rw [if_neg hk, mul_zero]
  · intro h; exact absurd (Finset.mem_univ n) h

end VQ

end
-- ==== Proof.Block.lean ====
/-
  What one block of the kernel computes. A block holds 1024 vectors of one image, a column each, and the whole table.
  Its scores, its minima, the picked row numbers and the quantised block are read here at an index.
-/
module

public import proofs.«01_k».proof.Proof.Gen.KernelIdeal.Skeleton
public import proofs.«01_k».proof.Proof.Spec

@[expose] public section

set_option maxRecDepth 16384

noncomputable section

open Idealize.ShloMosaic Idealize.ShloMosaic.TcCoe Idealize.SL.Sem

namespace Cert.KernelIdeal.VQ

open Cert.KernelIdeal Cert.KernelIdeal.Gen _root_.VQ

variable (x : FVec Ideal S1x64x1024 .f32) (E : FVec Ideal S1024x64 .f32)

/-- Column `l` of a block. -/
abbrev col (l : Fin 1024) : Fin 64 → EReal := fun c => x (ix3 0 c l)

/-- The rows of the table. -/
abbrev rows : Fin 1024 → Fin 64 → EReal := fun k c => E (ix2 k c)

/-- The block's distance matrix holds the score of row `k` against column `l`. -/
theorem scores_at (k l : Fin 1024) : k0_pay3 (F := Ideal) x E (ix2 k l) = score (col x l) (rows E k) := by
  pointwise [k0_pay3, k0_pay2]
  rw [score]
  simp only [mul_comm (E _)]

/-- The minimum over the rows is the score of the picked row. -/
theorem minima_at (l : Fin 1024) :
    k0_pay4 (F := Ideal) x E (ix2 0 l) = score (col x l) (rows E (pick (col x l) (rows E))) := by
  have h : Ideal.ofBits FTy.f32 2139095040#32 = ⊤ := by simp [Ideal.ofBits, Ideal.ieee]
  pointwise [k0_pay4]
  rw [h]
  simp only [scores_at]
  exact fold_min_eq fun k => score (col x l) (rows E k)

/-- The block written: each vector plus the difference between its picked row and itself. -/
theorem quantized_at (c : Fin 64) (l : Fin 1024) :
    k0_pay5 (F := Ideal) x E (ix3 0 c l)
      = x (ix3 0 c l) + (rows E (pick (col x l) (rows E)) c - x (ix3 0 c l)) := by
  pointwise [k0_pay5, k0_pay2]
  simp only [scores_at, minima_at]
  rw [fold_minsi_eq (fun k => score (col x l) (rows E k)) (score (col x l) (rows E (pick (col x l) (rows E)))) rfl]
  simp only [signed_indicator]
  exact congrArg (fun s => x (ix3 0 c l) + (s - x (ix3 0 c l)))
    (sum_mul_indicator (fun k => rows E k c) (pick (col x l) (rows E)))

/-- A sum over a block of one row is the sum over its columns. -/
theorem sum_row (v : FVec Ideal S1x1x1024 .f32) (a : Fin 1) :
    multiReduction (F := Ideal) .add [1, 2] S1 v 0x00000000#32 reduces_S1x1x1024_S1 (.inl rfl) rfl (ix1 a)
      = ∑ l : Fin 1024, v (ix3 0 0 l) := by
  pointwise
  simp

/-- The one entry of a vector of length one, read through a unit array. -/
theorem only_entry (v : FVec Ideal S1 .f32) :
    extractAt ![0, 0, 0] (shapeCast S1x1x1 v shapeCasts_S1_S1x1x1) inpos_S1x1x1_p0_0_0 = v (ix1 0) := by
  pointwise

/-- A row read as a unit stack of rows. -/
theorem row_stack (v : FVec Ideal S1x1024 .f32) (l : Fin 1024) :
    shapeCast S1x1x1024 v shapeCasts_S1x1024_S1x1x1024 (ix3 0 0 l) = v (ix2 0 l) := by
  pointwise

/-- A constant block reads as its constant. -/
theorem broadcast_at {s : Shape} (v : Ideal .f32) (j : s.Idx) : broadcast s v j = v := rfl

/-- The last step of the block's part of the loss: one number, spread over the one entry. -/
theorem part_spread :
    k0_pay6 (F := Ideal) x E = broadcast S1x1 (extractAt ![0, 0, 0] (shapeCast S1x1x1 (multiReduction (F := Ideal) .add [1, 2] S1
      (shapeCast S1x1x1024 (k0_pay4 (F := Ideal) x E) shapeCasts_S1x1024_S1x1x1024) 0x00000000#32 reduces_S1x1x1024_S1
      (.inl rfl) rfl) shapeCasts_S1_S1x1x1) inpos_S1x1x1_p0_0_0) := by
  unfold k0_pay6
  rfl

/-- The block's part of the loss: the sum over its columns of the score of the picked row. -/
theorem part_at (j : S1x1.Idx) :
    k0_pay6 (F := Ideal) x E j = ∑ l, score (col x l) (rows E (pick (col x l) (rows E))) := by
  rw [part_spread, broadcast_at, only_entry, sum_row]
  exact Finset.sum_congr rfl fun l _ => (row_stack _ l).trans (minima_at x E l)

/-- The accumulating step: what was held plus the part. -/
theorem step_at (v w : FVec Ideal S1x1 .f32) (j : S1x1.Idx) : k0_pay1 (F := Ideal) v w j = w j + v j := by
  pointwise [k0_pay1]

end Cert.KernelIdeal.VQ

end
-- ==== Proof.Arrays.lean ====
/-
  What the kernel's two output arrays hold after its run over the 64 images. Every image's quantised block is written
  back once. The loss block is started by the first image, added to by the others and written back after the last.
-/
module

public import proofs.«01_k».proof.Proof.Block
public import proofs.«01_k».proof.Proof.Gen.KernelIdeal.Frame
public import Idealize.ShloMosaic.Lib.Pipeline.ValueKit
public import Idealize.ShloMosaic.Lib.Claim

@[expose] public section

set_option maxRecDepth 16384

noncomputable section

open Idealize.ShloMosaic Idealize.ShloMosaic.TcCoe Idealize.SL.Sem

namespace Cert.KernelIdeal.VQ

open Cert.KernelIdeal Cert.KernelIdeal.Gen _root_.VQ

variable (m : (ℓ : Loc nD τ sig) → Buf (Elt Ideal) ℓ)

/-- The blocks' places at point `t`: image `t`, the whole table, image `t`, the one loss entry. -/
theorem idx : ∀ t : Fin cfg0.N, win0_0.index t = ![t.val, 0, 0] ∧ win0_1.index t = ![0, 0]
    ∧ win0_2.index t = ![t.val, 0, 0] ∧ win0_3.index t = ![0, 0] :=
  (by decide +kernel : ∀ t : Fin grid0.N, _)

/-- The images the kernel is given. -/
abbrev images (c : Dev nD) : FVec Ideal S64x64x32x32 .f32 := m ((c : Thread nD τ).loc main_arg0)

/-- The table the kernel is given. -/
abbrev table (c : Dev nD) : FVec Ideal S1024x64 .f32 := m ((c : Thread nD τ).loc main_arg1)

/-- The vector at image `b` and place `l` of its 32 by 32 grid, the places numbered row by row. -/
abbrev place (X : FVec Ideal S64x64x32x32 .f32) (b : Fin 64) (l : Fin 1024) : Fin 64 → EReal :=
  fun c => X (ix4 b c (⟨l.val / 32, by omega⟩ : Fin 32) (⟨l.val % 32, by omega⟩ : Fin 32))

/-- The images with each image's grid in a row. -/
theorem flattened_at (X : FVec Ideal S64x64x32x32 .f32) (b c : Fin 64) (l : Fin 1024) :
    shapeCast S64x64x1024 X shapeCasts_S64x64x32x32_S64x64x1024 (ix3 b c l) = place X b l c := by
  pointwise

/-- Column `l` of image `t`'s block. -/
theorem col_block (c : Dev nD) (t : Fin cfg0.N) (l : Fin 1024) :
    col (iblk m c 0 t) l = place (images m c) ⟨t.val, lt_of_lt_of_eq t.isLt N_0⟩ l := by
  funext d
  refine Eq.trans ?_ (flattened_at (images m c) ⟨t.val, lt_of_lt_of_eq t.isLt N_0⟩ d l)
  show iblk m c 0 t (ix3 0 d l) = _
  blk_simp [iblk]
  entry_read
  blk_ext [idx t]

/-- The table's block is the table. -/
theorem table_block (c : Dev nD) (t : Fin cfg0.N) : iblk m c 1 t = table m c := by
  blk_ext! [iblk, V, idx t]

/-- The picked row of the vector at image `b` and place `l`. -/
abbrev chosen (X : FVec Ideal S64x64x32x32 .f32) (E : FVec Ideal S1024x64 .f32) (b : Fin 64) (l : Fin 1024) : Fin 64 → EReal :=
  rows E (pick (place X b l) (rows E))

/-- The quantised array: each vector plus the difference between its picked row and itself. -/
def quantized (X : FVec Ideal S64x64x32x32 .f32) (E : FVec Ideal S1024x64 .f32) : FVec Ideal S64x64x1024 .f32 :=
  fun i => place X (i 0) (i 2) (i 1) + (chosen X E (i 0) (i 2) (i 1) - place X (i 0) (i 2) (i 1))

/-- The score of the row picked for the vector at image `b` and place `l`. -/
abbrev least (X : FVec Ideal S64x64x32x32 .f32) (E : FVec Ideal S1024x64 .f32) (b : Fin 64) (l : Fin 1024) : EReal :=
  score (place X b l) (chosen X E b l)

/-- The block written at point `t` is image `t` of the quantised array. -/
theorem quantized_block (c : Dev nD) (t : Fin cfg0.N) (d : Fin 64) (l : Fin 1024) :
    k0_pay5 (F := Ideal) (iblk m c 0 t) (iblk m c 1 t) (ix3 0 d l)
      = quantized (images m c) (table m c) (ix3 ⟨t.val, lt_of_lt_of_eq t.isLt N_0⟩ d l) := by
  have hx : (iblk m c 0 t : FVec Ideal S1x64x1024 .f32) (ix3 0 d l)
      = place (images m c) ⟨t.val, lt_of_lt_of_eq t.isLt N_0⟩ l d := congrFun (col_block m c t l) d
  rw [quantized_at, col_block, table_block, hx]
  rfl

/-- The loss part of point `t` is the sum of image `t`'s least scores. -/
theorem part_block (c : Dev nD) (t : Fin cfg0.N) (j : S1x1.Idx) :
    k0_pay6 (F := Ideal) (iblk m c 0 t) (iblk m c 1 t) j
      = ∑ l, least (images m c) (table m c) ⟨t.val, lt_of_lt_of_eq t.isLt N_0⟩ l := by
  rw [part_at]
  simp only [col_block, table_block]

/-- The first output array after the run. -/
theorem quantized_final (c : Dev nD) :
    (dats m 0 c).arrAt 2 (cfgs 0).N = quantized (images m c) (table m c) := by
  refine (dats m 0 c).arrAt_eq_of_covers 2 _ (by decide +kernel) fun t _ y => ?_
  have hN : t.val < 64 := lt_of_lt_of_eq t.isLt N_0
  blk_simp
  rw [after0_2]
  have key : (outsAt0 m c t.val t.isLt).1 = k0_pay5 (F := Ideal) (iblk m c 0 t) (iblk m c 1 t) := by
    by_cases h0 : t.val % 64 = 0
    · rw [outsAt0_A m c t h0 (by omega)]; frame_out
    · rw [outsAt0_B m c t h0 (by omega)]; frame_out
  rw [key]
  idx_vars y
  obtain rfl : y0 = 0 := Subsingleton.elim _ _
  refine (quantized_block m c t y1 y2).trans (congrArg (quantized (images m c) (table m c)) ?_)
  blk_ext [idx t]

/-- The loss array after the run. -/
theorem loss_final (c : Dev nD) :
    (dats m 0 c).arrAt 3 (cfgs 0).N
      = fun _ => ∑ b : Fin 64, ∑ l : Fin 1024, least (images m c) (table m c) b l := by
  refine (dats m 0 c).arrAt_eq_of_covers 3 _ (by decide +kernel) fun t hf y => ?_
  blk_simp
  rw [after0_3, Pipeline.eq_sum_fin_of_reset_step_apply_of_flush (fun n h => (outsAt0 m c n h).2) 64 (fun _ => 0) _
    (fun t h j => by
      have := t.isLt.trans_eq N_0
      rw [outsAt0_A m c t h (by omega)]; frame_out; rw [part_block, ← zero_add (∑ l, _)])
    (fun t h j => by
      have := t.isLt.trans_eq N_0
      rw [outsAt0_B m c t h (by omega)]; frame_out; rw [step_at, part_block])
    t ((flush0_3 t).mp hf) _, zero_add]
  refine Fin.sum_fin_congr fun s => ?_
  have ht : t.val < 64 := lt_of_lt_of_eq t.isLt N_0
  have e : ∀ h, (⟨64 * (t.val / 64) + s.val, h⟩ : Fin 64) = s := fun h => Fin.ext (by show 64 * (t.val / 64) + s.val = s.val; omega)
  exact Fin.sum_fin_congr fun l => congrArg (fun b => least (images m c) (table m c) b l) (e _)

end Cert.KernelIdeal.VQ

end
-- ==== Proof.KernelRun.lean ====
/-
  The kernel's run: every execution ends with its two results read off the two arrays and its arguments unchanged.
-/
module

public import proofs.«01_k».proof.Proof.Arrays

@[expose] public section

set_option maxRecDepth 16384

noncomputable section

open Idealize.ShloMosaic Idealize.ShloMosaic.TcCoe Idealize.SL.Sem

namespace Cert.KernelIdeal.VQ

open Cert.KernelIdeal Cert.KernelIdeal.Gen _root_.VQ

variable (m : (ℓ : Loc nD τ sig) → Buf (Elt Ideal) ℓ)

/-- The first result: the quantised array, each image's places back in their 32 by 32 grid. -/
def out (X : FVec Ideal S64x64x32x32 .f32) (E : FVec Ideal S1024x64 .f32) : FVec Ideal S64x64x32x32 .f32 :=
  shapeCast S64x64x32x32 (quantized X E) shapeCasts_S64x64x1024_S64x64x32x32

/-- The loss array: one entry, the sum of all least scores. -/
def total (X : FVec Ideal S64x64x32x32 .f32) (E : FVec Ideal S1024x64 .f32) : FVec Ideal S1x1 .f32 :=
  fun _ => ∑ b : Fin 64, ∑ l : Fin 1024, least X E b l

/-- The second result: the loss entry scaled by five quarters over the number of entries. -/
def loss (X : FVec Ideal S64x64x32x32 .f32) (E : FVec Ideal S1024x64 .f32) : FVec Ideal S_ .f32 :=
  Host.divf (mulf (constant S_ .f32 0x3FA00000#32) (shapeCast S_ (total X E) shapeCasts_S1x1_S_))
    (constant S_ .f32 0x4A800000#32)

/-- The host's memory after the region: each array as the region left it, all else as the region found it. -/
abbrev after (c : Dev nD) : Valuation τ sig (Elt Ideal) :=
  Pipeline.withArrays (cfgs 0).spec c (V0 m c) fun w => (dats m 0 c).arrAt w (cfgs 0).N

/-- The quantised array as the host finds it. -/
theorem after_quantized (c : Dev nD) :
    after m c (Proc.devRef .tc main_call0_v1_0) = quantized (images m c) (table m c) :=
  (Pipeline.withArrays_arr (cfgs 0).spec (by decide) c (V0 m c) (fun w => (dats m 0 c).arrAt w (cfgs 0).N) 2).trans (quantized_final m c)

/-- The loss array as the host finds it. -/
theorem after_loss (c : Dev nD) :
    after m c (Proc.devRef .tc main_call0_v1_1) = total (images m c) (table m c) :=
  (Pipeline.withArrays_arr (cfgs 0).spec (by decide) c (V0 m c) (fun w => (dats m 0 c).arrAt w (cfgs 0).N) 3).trans (loss_final m c)

/-- The run, read at both results. -/
theorem results (ρ : Dev nD → PrngReg) :
    θ_run (defs (F := Ideal)) (onTc (τ := τ) (main (F := Ideal))) ⟨m, fun _ => 0, ρ⟩ fun r => ∀ c : Dev nD,
      r.2.mem ((c : Thread nD τ).loc main_v0_0) = out (images m c) (table m c)
      ∧ r.2.mem ((c : Thread nD τ).loc main_v0_1) = loss (images m c) (table m c) := by
  run_from Cert.KernelIdeal.Gen.run_main m ρ
  · unfold Pipeline.afterTail₀ out
    rw [← after_quantized m c]
    unfold after
    generalize Pipeline.withArrays (cfgs 0).spec c (V0 m c) (fun w => (dats m 0 c).arrAt w (cfgs 0).N) = W
    simp only [List.flatten_cons, List.flatten_nil, List.append_nil]
    after_results
    rfl
  · unfold Pipeline.afterTail₀ loss
    rw [← after_loss m c]
    unfold after
    generalize Pipeline.withArrays (cfgs 0).spec c (V0 m c) (fun w => (dats m 0 c).arrAt w (cfgs 0).N) = W
    simp only [List.flatten_cons, List.flatten_nil, List.append_nil]
    after_results
    simp -implicitDefEqProofs only [StableHlo.TRef.toBuf, StableHlo.TRef.ofBuf, cast_cast, cast_eq]
    rfl

/-- The run, read at both results and both arguments. -/
theorem run (ρ : Dev nD → PrngReg) :
    θ_run (defs (F := Ideal)) (onTc (τ := τ) (main (F := Ideal))) ⟨m, fun _ => 0, ρ⟩ fun r => ∀ c : Dev nD,
      r.2.mem ((c : Thread nD τ).loc main_v0_0) = out (images m c) (table m c)
      ∧ r.2.mem ((c : Thread nD τ).loc main_v0_1) = loss (images m c) (table m c)
      ∧ r.2.mem ((c : Thread nD τ).loc main_arg0) = m ((c : Thread nD τ).loc main_arg0)
      ∧ r.2.mem ((c : Thread nD τ).loc main_arg1) = m ((c : Thread nD τ).loc main_arg1) :=
  (θ_run _ _ _).mono (fun _ h c => ⟨(h.1 c).1, (h.1 c).2, (h.2 c).1, (h.2 c).2⟩)
    (θ_run_and (results m ρ) (Gen.unchanged m ρ))

end Cert.KernelIdeal.VQ

end
-- ==== Proof.RefTerm.lean ====
/-
  What the reference computes, stage by stage: the vectors in rows, the scores, the picked row numbers, the picked
  rows, and its two results.
-/
module

public import proofs.«01_k».proof.Proof.Gen.ReferenceIdeal
public import proofs.«01_k».proof.Proof.Spec
public import Idealize.ShloMosaic.Lib.Pipeline.ValueKit

@[expose] public section

set_option maxRecDepth 16384

noncomputable section

open Idealize.ShloMosaic Idealize.ShloMosaic.TcCoe Idealize.SL.Sem

namespace Cert.ReferenceIdeal.VQ

open Cert.ReferenceIdeal Cert.ReferenceIdeal.Gen _root_.VQ

/-- The vector at image `b` and place `l` of its 32 by 32 grid, the places numbered row by row. -/
abbrev place (X : FVec Ideal S64x64x32x32 .f32) (b : Fin 64) (l : Fin 1024) : Fin 64 → EReal :=
  fun c => X (ix4 b c (⟨l.val / 32, by omega⟩ : Fin 32) (⟨l.val % 32, by omega⟩ : Fin 32))

/-- The rows of the table. -/
abbrev rows (E : FVec Ideal S1024x64 .f32) : Fin 1024 → Fin 64 → EReal := fun k c => E (ix2 k c)

/-- The images with the vector's own axis last. -/
def last (X : FVec Ideal S64x64x32x32 .f32) : FVec Ideal S64x32x32x64 .f32 :=
  transpose S64x32x32x64 [0, 2, 3, 1] X transposes_S64x64x32x32_S64x32x32x64_0_2_3_1

/-- The vectors, one a row. -/
def flat (X : FVec Ideal S64x64x32x32 .f32) : FVec Ideal S65536x64 .f32 :=
  shapeCast S65536x64 (last X) shapeCasts_S64x32x32x64_S65536x64

/-- The scores: one row a vector, one column a table row. -/
def dist (X : FVec Ideal S64x64x32x32 .f32) (E : FVec Ideal S1024x64 .f32) : FVec Ideal S65536x1024 .f32 :=
  subf
    (addf
      (broadcastInDim S65536x1024 ![0, 1] bcast_S65536x1_S65536x1024_0_1
        (broadcastInDim S65536x1 ![0] bcast_S65536_S65536x1_0
          (Host.reduceAdd (mulf (flat X) (flat X)) (constant S_ .f32 0x00000000#32) reducesTo_S65536x64_S65536_d1 h_S_)))
      (broadcastInDim S65536x1024 ![0, 1] bcast_S1x1024_S65536x1024_0_1
        (broadcastInDim S1x1024 ![1] bcast_S1024_S1x1024_1
          (Host.reduceAdd (mulf E E) (constant S_ .f32 0x00000000#32) reducesTo_S1024x64_S1024_d1 h_S_))))
    (mulf (broadcastInDim S65536x1024 ![] bcast_S_S65536x1024 (constant S_ .f32 0x40000000#32))
      (Host.dotGeneral dot_S65536x64_S64x1024_S65536x1024_1_0_0_1_n_n none (flat X)
        (transpose S64x1024 [1, 0] E transposes_S1024x64_S64x1024_1_0)))

/-- The least entry of each row of a matrix of scores, paired with its column. -/
@[irreducible]
def least (D : FVec Ideal S65536x1024 .f32) : S65536.Idx → Ideal .f32 × BitVec 32 :=
  Host.argReduce reducer_argmin_f32_i32 D (iotaInDim S65536x1024 32 1) (constant S_ .f32 0x7F800000#32)
    (constantI S_ 32 0#32) reducesTo_S65536x1024_S65536_d1 h_S_

/-- The number of the table row picked for each vector. -/
def picked (X : FVec Ideal S64x64x32x32 .f32) (E : FVec Ideal S1024x64 .f32) : IVec S65536 32 :=
  fun j => (least (dist X E) j).2

/-- The rows of zeros with a single one, at the given numbers. -/
def hot (J : IVec S65536 32) : FVec Ideal S65536x1024 .f32 :=
  uitofp .f32 (cmpi .eq
    (broadcastInDim S65536x1024 ![0, 1] bcast_S65536x1_S65536x1024_0_1
      (broadcastInDim S65536x1 ![0] bcast_S65536_S65536x1_0 J))
    (broadcastInDim S65536x1024 ![0, 1] bcast_S1x1024_S65536x1024_0_1 (iotaInDim S1x1024 32 1)))

/-- The table rows of the given numbers, in the images' arrangement. -/
def gather (J : IVec S65536 32) (E : FVec Ideal S1024x64 .f32) : FVec Ideal S64x32x32x64 .f32 :=
  shapeCast S64x32x32x64 (Host.dotGeneral dot_S65536x1024_S1024x64_S65536x64_1_0_0_1_n_n none (hot J) E)
    shapeCasts_S65536x64_S64x32x32x64

/-- The picked table rows, in the images' arrangement. -/
def quant (X : FVec Ideal S64x64x32x32 .f32) (E : FVec Ideal S1024x64 .f32) : FVec Ideal S64x32x32x64 .f32 :=
  gather (picked X E) E

/-- The first result. -/
def out (X : FVec Ideal S64x64x32x32 .f32) (E : FVec Ideal S1024x64 .f32) : FVec Ideal S64x64x32x32 .f32 :=
  transpose S64x64x32x32 [0, 3, 1, 2] (addf (last X) (subf (quant X E) (last X))) transposes_S64x32x32x64_S64x64x32x32_0_3_1_2

/-- The mean squared difference between the vectors and their picked rows. -/
def mean (X : FVec Ideal S64x64x32x32 .f32) (E : FVec Ideal S1024x64 .f32) : FVec Ideal S_ .f32 :=
  Host.divf (Host.reduceAdd (mulf (subf (quant X E) (last X)) (subf (quant X E) (last X))) (constant S_ .f32 0x00000000#32)
    reducesTo_S64x32x32x64_S_d0_1_2_3 h_S_) (constant S_ .f32 0x4A800000#32)

/-- The second result, the loss. -/
def loss (X : FVec Ideal S64x64x32x32 .f32) (E : FVec Ideal S1024x64 .f32) : FVec Ideal S_ .f32 :=
  addf (mulf (mean X E) (constant S_ .f32 0x3E800000#32)) (mean X E)

end Cert.ReferenceIdeal.VQ

end
-- ==== Proof.RefPick.lean ====
/-
  The reference's search for the picked row: its step keeps the lesser of two (value, index) pairs, the pairs it walks
  over are the row's entries with their numbers, and so it ends at the least index of the row's smallest entry.
-/
module

public import proofs.«01_k».proof.Proof.RefTerm

@[expose] public section

set_option maxRecDepth 16384

noncomputable section

open Idealize.ShloMosaic Idealize.ShloMosaic.TcCoe Idealize.SL.Sem

namespace Cert.ReferenceIdeal.VQ

open Cert.ReferenceIdeal Cert.ReferenceIdeal.Gen _root_.VQ

/-- The step of the walk, with its comparisons read as propositions. -/
theorem reducer_eq (p q : EReal × BitVec 32) :
    reducer_argmin_f32_i32 (F := Ideal) p q
      = (if p.1 < q.1 then p.1 else q.1, if p.1 < q.1 ∨ p.1 = q.1 ∧ p.2.toInt < q.2.toInt then p.2 else q.2) := by
  have hlt : FloatOps.cmpf (F := Ideal) (φ := .f32) .olt p.1 q.1 = if p.1 < q.1 then 1#1 else 0#1 := by
    show Ideal.cmp .olt p.1 q.1 = _
    by_cases h : p.1 < q.1 <;> simp [Ideal.cmp, h]
  have heq : FloatOps.cmpf (F := Ideal) (φ := .f32) .oeq p.1 q.1 = if p.1 = q.1 then 1#1 else 0#1 := by
    show Ideal.cmp .oeq p.1 q.1 = _
    by_cases h : p.1 = q.1 <;> simp [Ideal.cmp, h]
  have hne : FloatOps.cmpf (F := Ideal) (φ := .f32) .une p.1 p.1 = 0#1 := by
    show Ideal.cmp .une p.1 p.1 = _
    simp [Ideal.cmp]
  have hidx : IntOp.cmpi .slt p.2 q.2 = if p.2.toInt < q.2.toInt then 1#1 else 0#1 := by
    by_cases h : p.2.toInt < q.2.toInt <;> simp [IntOp.cmpi, BitVec.slt, h]
  unfold reducer_argmin_f32_i32
  simp only [hlt, heq, hne, hidx]
  by_cases h1 : p.1 < q.1 <;> by_cases h2 : p.1 = q.1 <;> by_cases h3 : p.2.toInt < q.2.toInt <;>
    simp [h1, h2, h3, IntOp.ori, IntOp.andi, Scalar.select]

/-- The step keeps one of its two pairs, the one below the other. -/
theorem reducer_keeps : Keeps (reducer_argmin_f32_i32 (F := Ideal)) := by
  have key : ∀ p q : EReal × BitVec 32, (reducer_argmin_f32_i32 (F := Ideal) p q = p ∧ Below p q)
      ∨ (reducer_argmin_f32_i32 (F := Ideal) p q = q ∧ Below q p) := by
    rintro ⟨a, i⟩ ⟨b, j⟩
    rw [reducer_eq]
    rcases lt_trichotomy a b with h | h | h
    · left; exact ⟨by simp [h], .inl h⟩
    · subst h
      by_cases hij : i.toInt < j.toInt
      · left; exact ⟨by simp [hij], .inr ⟨rfl, hij.le⟩⟩
      · right; exact ⟨by simp [hij], .inr ⟨rfl, not_lt.mp hij⟩⟩
    · right; exact ⟨by simp [h.not_gt, h.ne'], .inl h⟩
  refine ⟨fun p q => (key p q).imp And.left And.left, fun p q => ?_, fun p q => ?_⟩
  · rcases key p q with ⟨h, h'⟩ | ⟨h, h'⟩
    · rw [h]; exact .refl p
    · rw [h]; exact h'
  · rcases key p q with ⟨h, h'⟩ | ⟨h, h'⟩
    · rw [h]; exact h'
    · rw [h]; exact .refl q

/-- The pairs walked over at a row are the row's entries with their companions. -/
theorem mem_fiber {n0 n1 : Nat} {t : Shape} (x : (⟨2, ![n0, n1]⟩ : Shape).Idx → EReal)
    (y : (⟨2, ![n0, n1]⟩ : Shape).Idx → BitVec 32) (h : (⟨2, ![n0, n1]⟩ : Shape).ReducesTo [1] t) (j : t.Idx)
    (r : Fin n0) (hr : r.val = (j ⟨0, h.lt_r2_a1_0⟩).val) (p : EReal × BitVec 32) :
    p ∈ Host.argReduceFiber x y h j ↔ ∃ k : Fin n1, p = (x (ix2 r k), y (ix2 r k)) := by
  have hr' : r = ⟨(j ⟨0, h.lt_r2_a1_0⟩).val, Shape.coordLt (j ⟨0, h.lt_r2_a1_0⟩) h.size_r2_a1_0⟩ := Fin.ext hr
  unfold Host.argReduceFiber
  simp only [List.mem_map, List.mem_filter, List.mem_finRange, decide_eq_true_eq, true_and]
  constructor
  · rintro ⟨n, hn, rfl⟩
    obtain ⟨k, hk⟩ := (h.fiber_r2_a1 j _).1 hn
    exact ⟨k, by rw [← hk, hr']⟩
  · rintro ⟨k, rfl⟩
    refine ⟨Shape.rowMajor _ (ix2 r k), (h.fiber_r2_a1 j _).2 ⟨k, ?_⟩, ?_⟩
    · rw [Equiv.symm_apply_apply, hr']
    · rw [Equiv.symm_apply_apply]

/-- The index found in row `r` of any matrix is the least index of the row's smallest entry. -/
theorem argmin_row (D : FVec Ideal S65536x1024 .f32) (r : Fin 65536) :
    (least D (ix1 r)).2 = BitVec.ofNat 32 (nearest fun k => D (ix2 r k)).val := by
  have htop : Ideal.ofBits FTy.f32 0x7F800000#32 = ⊤ := by simp [Ideal.ofBits, Ideal.ieee]
  have h0 : (constant (F := Ideal) S_ .f32 0x7F800000#32 (Shape.Idx.first h_S_), constantI S_ 32 0#32 (Shape.Idx.first h_S_))
      = ((⊤ : EReal), 0#32) := Prod.ext htop rfl
  unfold least
  rw [Ideal.argReduce_eq_reduce2, Host.reduce2_eq_foldl_fiber, h0]
  refine reducer_keeps.foldl_snd (fun k => D (ix2 r k)) _ fun p => ?_
  exact mem_fiber D (iotaInDim S65536x1024 32 1) reducesTo_S65536x1024_S65536_d1 (ix1 r) r rfl p

end Cert.ReferenceIdeal.VQ

end
-- ==== Proof.RefScore.lean ====
/-
  The reference's matrix of scores, read entry by entry: a row a vector, a column a table row.
-/
module

public import proofs.«01_k».proof.Proof.RefPick

@[expose] public section

set_option maxRecDepth 16384

noncomputable section

open Idealize.ShloMosaic Idealize.ShloMosaic.TcCoe Idealize.SL.Sem

namespace Cert.ReferenceIdeal.VQ

open Cert.ReferenceIdeal Cert.ReferenceIdeal.Gen _root_.VQ

variable (X : FVec Ideal S64x64x32x32 .f32) (E : FVec Ideal S1024x64 .f32)

/-- The image of row `r` and its place in it, from the row's number. -/
theorem place_row (r : Fin 65536) (c : Fin 64) :
    place X (⟨r.val / 1024, by omega⟩ : Fin 64) (⟨r.val % 1024, by omega⟩ : Fin 1024) c
      = X (ix4 (⟨r.val / 1024, by omega⟩ : Fin 64) c (⟨r.val / 32 % 32, by omega⟩ : Fin 32)
          (⟨r.val % 32, by omega⟩ : Fin 32)) := by
  have h1 : r.val % 1024 / 32 = r.val / 32 % 32 := by omega
  have h2 : r.val % 1024 % 32 = r.val % 32 := by omega
  exact congrArg₂ (fun h w : Fin 32 => X (ix4 (⟨r.val / 1024, by omega⟩ : Fin 64) c h w)) (Fin.ext h1) (Fin.ext h2)

/-- An entry of the rows of vectors. -/
theorem flat_at (r : Fin 65536) (c : Fin 64) :
    flat X (ix2 r c) = place X (⟨r.val / 1024, by omega⟩ : Fin 64) (⟨r.val % 1024, by omega⟩ : Fin 1024) c := by
  rw [place_row]
  pointwise [flat, last]

/-- The squared norm of a row of vectors. -/
theorem norm_at (V : FVec Ideal S65536x64 .f32) (r : Fin 65536) :
    Host.reduceAdd (mulf V V) (constant S_ .f32 0x00000000#32) reducesTo_S65536x64_S65536_d1 h_S_ (ix1 r)
      = ∑ c : Fin 64, V (ix2 r c) * V (ix2 r c) := by
  pointwise

/-- The squared norm of a table row. -/
theorem table_norm_at (k : Fin 1024) :
    Host.reduceAdd (mulf E E) (constant S_ .f32 0x00000000#32) reducesTo_S1024x64_S1024_d1 h_S_ (ix1 k)
      = ∑ c : Fin 64, E (ix2 k c) * E (ix2 k c) := by
  pointwise

/-- The inner product of a row of vectors and a table row. -/
theorem inner_at (V : FVec Ideal S65536x64 .f32) (r : Fin 65536) (k : Fin 1024) :
    Host.dotGeneral dot_S65536x64_S64x1024_S65536x1024_1_0_0_1_n_n none V
        (transpose S64x1024 [1, 0] E transposes_S1024x64_S64x1024_1_0) (ix2 r k)
      = ∑ c : Fin 64, V (ix2 r c) * E (ix2 k c) := by
  pointwise

/-- The score matrix from its three parts. -/
theorem assembled_at (N : FVec Ideal S65536 .f32) (M : FVec Ideal S1024 .f32) (D : FVec Ideal S65536x1024 .f32)
    (r : Fin 65536) (k : Fin 1024) :
    subf
      (addf
        (broadcastInDim S65536x1024 ![0, 1] bcast_S65536x1_S65536x1024_0_1
          (broadcastInDim S65536x1 ![0] bcast_S65536_S65536x1_0 N))
        (broadcastInDim S65536x1024 ![0, 1] bcast_S1x1024_S65536x1024_0_1
          (broadcastInDim S1x1024 ![1] bcast_S1024_S1x1024_1 M)))
      (mulf (broadcastInDim S65536x1024 ![] bcast_S_S65536x1024 (constant S_ .f32 0x40000000#32)) D) (ix2 r k)
      = (N (ix1 r) + M (ix1 k)) - Ideal.ofBits .f32 0x40000000#32 * D (ix2 r k) := by
  pointwise

/-- The entry of row `r` and column `k` of the score matrix. -/
theorem dist_at (r : Fin 65536) (k : Fin 1024) :
    dist X E (ix2 r k)
      = score (place X (⟨r.val / 1024, by omega⟩ : Fin 64) (⟨r.val % 1024, by omega⟩ : Fin 1024)) (rows E k) := by
  unfold dist score
  rw [assembled_at, norm_at, table_norm_at, inner_at]
  simp only [flat_at]

end Cert.ReferenceIdeal.VQ

end
-- ==== Proof.RefValue.lean ====
/-
  What the reference computes, read entry by entry: its scores, its picked rows, its first result and its mean.
-/
module

public import proofs.«01_k».proof.Proof.RefScore

@[expose] public section

set_option maxRecDepth 16384

noncomputable section

open Idealize.ShloMosaic Idealize.ShloMosaic.TcCoe Idealize.SL.Sem

namespace Cert.ReferenceIdeal.VQ

open Cert.ReferenceIdeal Cert.ReferenceIdeal.Gen _root_.VQ

variable (X : FVec Ideal S64x64x32x32 .f32) (E : FVec Ideal S1024x64 .f32)

/-- The picked row numbers are the columns of the least entries. -/
theorem picked_eq : picked X E = fun j => (least (dist X E) j).2 := rfl

/-- The row number picked for row `r`. -/
theorem picked_at (r : Fin 65536) :
    picked X E (ix1 r)
      = BitVec.ofNat 32
          (pick (place X (⟨r.val / 1024, by omega⟩ : Fin 64) (⟨r.val % 1024, by omega⟩ : Fin 1024)) (rows E)).val := by
  have h : (nearest fun k => dist X E (ix2 r k))
      = pick (place X (⟨r.val / 1024, by omega⟩ : Fin 64) (⟨r.val % 1024, by omega⟩ : Fin 1024)) (rows E) := by
    unfold pick
    exact congrArg nearest (funext fun k => dist_at X E r k)
  rw [← h, picked_eq]
  generalize dist X E = D
  exact argmin_row D r

/-- An entry of the gathered rows is a sum over its row of zeros with a single one. -/
theorem gather_sum (J : IVec S65536 32) (b : Fin 64) (h w : Fin 32) (c : Fin 64) :
    gather J E (ix4 b h w c)
      = ∑ k : Fin 1024, hot J (ix2 (⟨b.val * 1024 + h.val * 32 + w.val, by omega⟩ : Fin 65536) k) * E (ix2 k c) := by
  unfold gather
  generalize hot J = H
  pointwise

/-- An entry of a row of zeros with a single one. -/
theorem hot_at (J : IVec S65536 32) (r : Fin 65536) (k n : Fin 1024) (hJ : J (ix1 r) = BitVec.ofNat 32 n.val) :
    hot J (ix2 r k) = if k = n then (1 : EReal) else 0 := by
  have : hot J (ix2 r k) = FloatOps.uitofp .f32 (IntOp.cmpi .eq (J (ix1 r)) (BitVec.ofNat 32 k.val)) := by
    pointwise [hot]
  rw [this, hJ, unsigned_indicator]
  simp only [eq_comm]

/-- The gathered row is the table row of the number given. -/
theorem gather_at (J : IVec S65536 32) (b : Fin 64) (h w : Fin 32) (c : Fin 64) (n : Fin 1024)
    (hJ : J (ix1 (⟨b.val * 1024 + h.val * 32 + w.val, by omega⟩ : Fin 65536)) = BitVec.ofNat 32 n.val) :
    gather J E (ix4 b h w c) = rows E n c := by
  rw [gather_sum, ← sum_mul_indicator (fun k => rows E k c) n]
  refine Finset.sum_congr rfl fun k _ => ?_
  rw [hot_at J _ k n hJ, mul_comm]

/-- The number of the place at `(h, w)`. -/
abbrev spot (h w : Fin 32) : Fin 1024 := ⟨h.val * 32 + w.val, by omega⟩

/-- The table row picked at image `b` and place `(h, w)`. -/
theorem quant_at (b : Fin 64) (h w : Fin 32) (c : Fin 64) :
    quant X E (ix4 b h w c) = rows E (pick (place X b (spot h w)) (rows E)) c := by
  unfold quant
  refine gather_at E _ b h w c _ ?_
  rw [picked_at]
  have hb : (⟨(b.val * 1024 + h.val * 32 + w.val) / 1024, by omega⟩ : Fin 64) = b := Fin.ext (by simp only; omega)
  have hs : (⟨(b.val * 1024 + h.val * 32 + w.val) % 1024, by omega⟩ : Fin 1024) = spot h w :=
    Fin.ext (by simp only; omega)
  simp only [hb, hs]

/-- An entry of the first result. -/
theorem out_at (b c : Fin 64) (h w : Fin 32) :
    out X E (ix4 b c h w)
      = X (ix4 b c h w) + (rows E (pick (place X b (spot h w)) (rows E)) c - X (ix4 b c h w)) := by
  rw [← quant_at]
  unfold out
  generalize quant X E = Q
  pointwise [last]

/-- The reference's mean, over any gathered rows: the sum of the squared differences over their number. -/
theorem mean_of (Q : FVec Ideal S64x32x32x64 .f32) (j : S_.Idx) :
    Host.divf (Host.reduceAdd (mulf (subf Q (last X)) (subf Q (last X))) (constant S_ .f32 0x00000000#32)
      reducesTo_S64x32x32x64_S_d0_1_2_3 h_S_) (constant S_ .f32 0x4A800000#32) j
      = Ideal.div (∑ b : Fin 64, ∑ h : Fin 32, ∑ w : Fin 32, ∑ c : Fin 64,
          (Q (ix4 b h w c) - X (ix4 b c h w)) * (Q (ix4 b h w c) - X (ix4 b c h w)))
          (Ideal.ofBits .f32 0x4A800000#32) := by
  have hl : ∀ b h w c, last X (ix4 b h w c) = X (ix4 b c h w) := fun b h w c => by pointwise [last]
  simp only [← hl]
  generalize last X = Y
  pointwise
  rw [Ideal.hostReduceAdd_total _ (fun b => b.elim0), zero_add, sum_idx4]
  rfl

/-- The mean of the squared differences. -/
theorem mean_at (j : S_.Idx) :
    mean X E j
      = Ideal.div (∑ b : Fin 64, ∑ h : Fin 32, ∑ w : Fin 32, ∑ c : Fin 64,
          (rows E (pick (place X b (spot h w)) (rows E)) c - X (ix4 b c h w))
            * (rows E (pick (place X b (spot h w)) (rows E)) c - X (ix4 b c h w)))
          (Ideal.ofBits .f32 0x4A800000#32) := by
  unfold mean
  rw [mean_of]
  simp only [quant_at]

/-- The loss, from the mean. -/
theorem loss_at (j : S_.Idx) :
    loss X E j = mean X E j * Ideal.ofBits .f32 0x3E800000#32 + mean X E j := by
  unfold loss
  generalize mean X E = M
  pointwise

end Cert.ReferenceIdeal.VQ

end
-- ==== Proof.Squares.lean ====
/-
  The two laws that join the programs' losses, over real numbers: a score is a sum of squared differences, and five
  quarters of a mean is the mean plus a quarter of it.
-/
module

public import proofs.«01_k».proof.Proof.Spec

@[expose] public section

set_option maxRecDepth 16384

noncomputable section

open Idealize.ShloMosaic

namespace VQ

/-- A finite sum of reals is the same among the extended reals. -/
theorem sum_coe {n : Nat} (f : Fin n → ℝ) : ∑ i, (f i : EReal) = ((∑ i, f i : ℝ) : EReal) := by
  induction n with
  | zero => simp
  | succ n ih => rw [Fin.sum_univ_succ, Fin.sum_univ_succ, ih, EReal.coe_add]

/-- The constant 2. -/
theorem two_eq : Ideal.ofBits .f32 0x40000000#32 = ((2 : ℝ) : EReal) := by
  simp [Ideal.ofBits, Ideal.ieee]
  rw [← EReal.coe_mul]
  norm_num

/-- The constant 5/4. -/
theorem five_quarters_eq : Ideal.ofBits .f32 0x3FA00000#32 = ((5 / 4 : ℝ) : EReal) := by
  simp [Ideal.ofBits, Ideal.ieee]
  rw [← EReal.coe_mul]
  norm_num

/-- The constant 1/4. -/
theorem quarter_eq : Ideal.ofBits .f32 0x3E800000#32 = ((1 / 4 : ℝ) : EReal) := by
  simp [Ideal.ofBits, Ideal.ieee]
  rw [← EReal.coe_mul]
  norm_num

/-- The number of entries. -/
theorem count_eq : Ideal.ofBits .f32 0x4A800000#32 = ((4194304 : ℝ) : EReal) := by
  simp [Ideal.ofBits, Ideal.ieee]
  rw [← EReal.coe_mul]
  norm_num

/-- The sum of the squared differences of two vectors. -/
def gap (x e : Fin 64 → EReal) : EReal := ∑ c, (e c - x c) * (e c - x c)

/-- The sum of the squared differences of two real vectors is real. -/
theorem gap_coe (a b : Fin 64 → ℝ) :
    gap (fun c => (a c : EReal)) (fun c => (b c : EReal)) = ((∑ c, (b c - a c) * (b c - a c) : ℝ) : EReal) := by
  unfold gap
  simp only [← EReal.coe_sub, ← EReal.coe_mul]
  exact sum_coe _

/-- The score of real vectors is the sum of their squared differences. -/
theorem score_coe (a b : Fin 64 → ℝ) :
    score (fun c => (a c : EReal)) (fun c => (b c : EReal)) = gap (fun c => (a c : EReal)) (fun c => (b c : EReal)) := by
  rw [gap_coe, score, two_eq]
  simp only [← EReal.coe_mul]
  rw [sum_coe, sum_coe, sum_coe, ← EReal.coe_add, ← EReal.coe_mul, ← EReal.coe_sub]
  congr 1
  rw [Finset.mul_sum, ← Finset.sum_add_distrib, ← Finset.sum_sub_distrib]
  exact Finset.sum_congr rfl fun c _ => by ring

/-- The same with the vectors' entries only known to be real. -/
theorem score_eq_gap (x e : Fin 64 → EReal) (hx : ∀ c, ∃ r : ℝ, x c = r) (he : ∀ c, ∃ r : ℝ, e c = r) :
    score x e = gap x e := by
  choose a ha using hx
  choose b hb using he
  obtain rfl : x = fun c => (a c : EReal) := funext ha
  obtain rfl : e = fun c => (b c : EReal) := funext hb
  exact score_coe a b

/-- The sum of the squared differences is real when the entries are. -/
theorem gap_real (x e : Fin 64 → EReal) (hx : ∀ c, ∃ r : ℝ, x c = r) (he : ∀ c, ∃ r : ℝ, e c = r) :
    ∃ r : ℝ, gap x e = r := by
  choose a ha using hx
  choose b hb using he
  obtain rfl : x = fun c => (a c : EReal) := funext ha
  obtain rfl : e = fun c => (b c : EReal) := funext hb
  exact ⟨_, gap_coe a b⟩

/-- A finite sum of entries that are real is real. -/
theorem sum_real {n : Nat} (f : Fin n → EReal) (h : ∀ i, ∃ r : ℝ, f i = r) : ∃ r : ℝ, ∑ i, f i = r := by
  choose a ha using h
  obtain rfl : f = fun i => (a i : EReal) := funext ha
  exact ⟨_, sum_coe a⟩

/-- Five quarters of a real total over the number of entries is its mean and a quarter of its mean. -/
theorem scaled (s : ℝ) :
    Ideal.div (Ideal.ofBits .f32 0x3FA00000#32 * (s : EReal)) (Ideal.ofBits .f32 0x4A800000#32)
      = Ideal.div (s : EReal) (Ideal.ofBits .f32 0x4A800000#32) * Ideal.ofBits .f32 0x3E800000#32
        + Ideal.div (s : EReal) (Ideal.ofBits .f32 0x4A800000#32) := by
  rw [five_quarters_eq, quarter_eq, count_eq, Ideal.div_coe (by norm_num), Ideal.div_coe (by norm_num)]
  simp only [← EReal.coe_mul, ← EReal.coe_add]
  congr 1
  ring

end VQ

end
-- ==== Proof.Equal.lean ====
/-
  The two programs' results, compared. The first is the same for every input. The second is the same when every entry
  of the images and of the table is real.
-/
module

public import proofs.«01_k».proof.Proof.KernelRun
public import proofs.«01_k».proof.Proof.RefValue
public import proofs.«01_k».proof.Proof.Squares

@[expose] public section

set_option maxRecDepth 16384

noncomputable section

open Idealize.ShloMosaic Idealize.ShloMosaic.TcCoe Idealize.SL.Sem

namespace Cert.Equal

open _root_.VQ Cert.KernelIdeal.VQ
open Cert.ReferenceIdeal.VQ (spot)

variable (X : FVec Ideal Cert.KernelIdeal.S64x64x32x32 .f32) (E : FVec Ideal Cert.KernelIdeal.S1024x64 .f32)

/-- The vector at the place numbered from `(h, w)`. -/
theorem place_spot (b : Fin 64) (h w : Fin 32) (c : Fin 64) : place X b (spot h w) c = X (ix4 b c h w) := by
  have h1 : (h.val * 32 + w.val) / 32 = h.val := by omega
  have h2 : (h.val * 32 + w.val) % 32 = w.val := by omega
  exact congrArg₂ (fun h w : Fin 32 => X (ix4 b c h w)) (Fin.ext h1) (Fin.ext h2)

/-- An entry of the kernel's first result is the quantised array's at its place. -/
theorem kernel_out_at (b c : Fin 64) (h w : Fin 32) :
    Cert.KernelIdeal.VQ.out X E (ix4 b c h w) = quantized X E (ix3 b c (spot h w)) := by
  unfold Cert.KernelIdeal.VQ.out
  generalize quantized X E = Q
  pointwise

/-- The first results are equal. -/
theorem out_eq : Cert.KernelIdeal.VQ.out X E = Cert.ReferenceIdeal.VQ.out X E := by
  funext i
  idx_vars i
  rw [kernel_out_at]
  refine Eq.trans ?_ (Cert.ReferenceIdeal.VQ.out_at X E i0 i1 i2 i3).symm
  rw [← place_spot X i0 i2 i3 i1]
  rfl

/-- The sum of all squared differences between the vectors and their picked rows. -/
def gaps : EReal := ∑ b : Fin 64, ∑ l : Fin 1024, gap (place X b l) (chosen X E b l)

/-- The reference's sum, over images, grid places and coordinates, is the same sum. -/
theorem reference_sum :
    (∑ b : Fin 64, ∑ h : Fin 32, ∑ w : Fin 32, ∑ c : Fin 64,
      (chosen X E b (spot h w) c - X (ix4 b c h w)) * (chosen X E b (spot h w) c - X (ix4 b c h w))) = gaps X E := by
  unfold gaps gap
  refine Finset.sum_congr rfl fun b _ => ?_
  refine Fin.sum_mul_add_congr fun h w hl => ?_
  refine Finset.sum_congr rfl fun c _ => ?_
  rw [← place_spot X b h w c]

/-- The reference's mean is that sum over the number of entries. -/
theorem mean_eq (j : Cert.ReferenceIdeal.S_.Idx) :
    Cert.ReferenceIdeal.VQ.mean X E j = Ideal.div (gaps X E) (Ideal.ofBits .f32 0x4A800000#32) :=
  (Cert.ReferenceIdeal.VQ.mean_at X E j).trans
    (congrArg (fun s => Ideal.div s (Ideal.ofBits .f32 0x4A800000#32)) (reference_sum X E))

/-- The kernel's loss, read at its one entry. -/
theorem kernel_loss_at (j : Cert.KernelIdeal.S_.Idx) :
    Cert.KernelIdeal.VQ.loss X E j
      = Ideal.div (Ideal.ofBits .f32 0x3FA00000#32 * ∑ b : Fin 64, ∑ l : Fin 1024, least X E b l)
          (Ideal.ofBits .f32 0x4A800000#32) := by
  have ht : ∀ i, total X E i = ∑ b : Fin 64, ∑ l : Fin 1024, least X E b l := fun _ => rfl
  unfold Cert.KernelIdeal.VQ.loss
  rw [← ht (ix2 0 0)]
  generalize total X E = T
  pointwise

variable (hX : ∀ i, ∃ r : ℝ, X i = r) (hE : ∀ i, ∃ r : ℝ, E i = r)

include hX hE

/-- Over real entries the kernel's sum of least scores is the sum of all squared differences. -/
theorem kernel_sum : ∑ b : Fin 64, ∑ l : Fin 1024, least X E b l = gaps X E :=
  Finset.sum_congr rfl fun _ _ => Finset.sum_congr rfl fun _ _ => score_eq_gap _ _ (fun _ => hX _) fun _ => hE _

/-- Over real entries that sum is real. -/
theorem gaps_real : ∃ s : ℝ, gaps X E = s :=
  sum_real _ fun _ => sum_real _ fun _ => gap_real _ _ (fun _ => hX _) fun _ => hE _

/-- Over real entries the losses are equal. -/
theorem loss_eq : Cert.KernelIdeal.VQ.loss X E = Cert.ReferenceIdeal.VQ.loss X E := by
  funext j
  obtain ⟨s, hs⟩ := gaps_real X E hX hE
  rw [kernel_loss_at, kernel_sum X E hX hE, hs]
  refine (scaled s).trans (Eq.trans ?_ (Cert.ReferenceIdeal.VQ.loss_at X E j).symm)
  rw [mean_eq, hs]

end Cert.Equal

end
-- ==== Proof.Finite.lean ====
/-
  The precondition read back: where it holds, every entry of the images and of the table is a real number.
-/
module

public import proofs.«01_k».proof.Proof.Gen.Pre_finite
public import Idealize.ShloMosaic.Lib.ReduceAll
public import Idealize.ShloMosaic.Lib.Pipeline.ValueKit

@[expose] public section

set_option maxRecDepth 16384

noncomputable section

open Idealize.ShloMosaic

namespace Cert.Pre_finite.VQ

open Cert.Pre_finite Cert.Pre_finite.Gen

/-- The unit shape has one index. -/
instance : Subsingleton S_.Idx := ⟨fun i j => funext fun a => a.elim0⟩

/-- An extended real whose size compares below infinity is real. -/
theorem real_of_lt (v : EReal)
    (h : FloatOps.cmpf (F := Ideal) (φ := .f32) .olt (max v (-v)) (Ideal.ofBits .f32 0x7F800000#32) = 1#1) :
    ∃ r : ℝ, v = r := by
  have htop : Ideal.ofBits FTy.f32 0x7F800000#32 = ⊤ := by simp [Ideal.ofBits, Ideal.ieee]
  rw [htop] at h
  have hlt : max v (-v) < ⊤ := by
    by_contra hn
    have : Ideal.cmp .olt (max v (-v)) ⊤ = 1#1 := h
    simp [Ideal.cmp, hn] at this
  induction v using EReal.rec with
  | bot => simp at hlt
  | coe r => exact ⟨r, rfl⟩
  | top => simp at hlt

/-- The precondition makes every entry real. -/
theorem entries (X : FVec Ideal S64x64x32x32 .f32) (E : FVec Ideal S1024x64 .f32) (j : S_.Idx)
    (h : fn (F := Ideal) X E j = 1#1) : (∀ i, ∃ r : ℝ, X i = r) ∧ ∀ i, ∃ r : ℝ, E i = r := by
  obtain ⟨h1, h2⟩ := IntOp.andi_eq_one.1 h
  exact ⟨fun i => real_of_lt _ (Host.reduce_andi_all _ _ _ _ j h1 i),
    fun i => real_of_lt _ (Host.reduce_andi_all _ _ _ _ j h2 i)⟩

end Cert.Pre_finite.VQ

end
-- ==== Proof.RefRun.lean ====
/-
  The reference's run: every execution ends with its two results holding the composed terms of Proof/RefTerm.lean
  and its arguments unchanged.
-/
module

public import proofs.«01_k».proof.Proof.RefTerm
public import Idealize.ShloMosaic.Lib.Claim

@[expose] public section

set_option maxRecDepth 16384

noncomputable section

open Idealize.ShloMosaic Idealize.ShloMosaic.TcCoe Idealize.SL.Sem

namespace Cert.ReferenceIdeal.VQ

open Cert.ReferenceIdeal Cert.ReferenceIdeal.Gen

/-- The run, read at both results and both arguments. -/
theorem run (m : (ℓ : Loc nD τ sig) → Buf (Elt Ideal) ℓ) (ρ : Dev nD → PrngReg) :
    θ_run (defs (F := Ideal)) (onTc (τ := τ) (main (F := Ideal))) ⟨m, fun _ => 0, ρ⟩ fun r => ∀ c : Dev nD,
      r.2.mem ((c : Thread nD τ).loc main_v32) = out (m ((c : Thread nD τ).loc main_arg0)) (m ((c : Thread nD τ).loc main_arg1))
      ∧ r.2.mem ((c : Thread nD τ).loc main_v29) = loss (m ((c : Thread nD τ).loc main_arg0)) (m ((c : Thread nD τ).loc main_arg1))
      ∧ r.2.mem ((c : Thread nD τ).loc main_arg0) = m ((c : Thread nD τ).loc main_arg0)
      ∧ r.2.mem ((c : Thread nD τ).loc main_arg1) = m ((c : Thread nD τ).loc main_arg1) := by
  hlo_run
  · simp -implicitDefEqProofs only [StableHlo.TRef.toBuf, StableHlo.TRef.ofBuf, cast_cast, cast_eq]
    unfold out quant gather hot picked least dist flat last
    rfl
  · simp -implicitDefEqProofs only [StableHlo.TRef.toBuf, StableHlo.TRef.ofBuf, cast_cast, cast_eq]
    unfold loss mean quant gather hot picked least dist flat last
    rfl

end Cert.ReferenceIdeal.VQ

end
-- ==== Proof.Claims.lean ====
/-
  The claims, one by one: the references' frames and the two value claims, from the runs and the equations.
-/
module

public import proofs.«01_k».proof.Defs
public import proofs.«01_k».proof.Proof.Gen.Reference
public import proofs.«01_k».proof.Proof.Gen.On_quantized_only
public import proofs.«01_k».proof.Proof.Equal
public import proofs.«01_k».proof.Proof.Finite
public import proofs.«01_k».proof.Proof.RefRun

@[expose] public section

set_option maxRecDepth 16384

noncomputable section

open Idealize.ShloMosaic Idealize.ShloMosaic.TcCoe Idealize.SL.Sem

namespace Cert.Proof

/-- The reference runs to its end and leaves its arguments as they were. -/
theorem reference_frame : Cert.quiescent_Reference (hReference := Cert.Reference.Gen.facts) := by
  intro m g _
  hlo_run
  · exact fun _ => ⟨trivial, trivial⟩
  · refine sem_eq_zero_of_no_sems ?_ _
    decide

/-- So does the reference over the extended reals. -/
theorem ideal_reference_frame :
    Cert.quiescent_ReferenceIdeal (hReferenceIdeal := Cert.ReferenceIdeal.Gen.facts) := by
  intro m g _
  hlo_run
  · exact fun _ => ⟨trivial, trivial⟩
  · refine sem_eq_zero_of_no_sems ?_ _
    decide

/-- Both results are equal where every entry of the arguments is real. -/
theorem both_results : Cert.algebraic_KernelIdeal_ReferenceIdeal_pre_finite
    (hKernelIdeal := Cert.KernelIdeal.Gen.facts) (hReferenceIdeal := Cert.ReferenceIdeal.Gen.facts)
    (hPre_finite := Cert.Pre_finite.Gen.facts) := by
  intro m g m' g' hpre hargs
  refine ⟨fun c => Cert.KernelIdeal.VQ.out (Cert.KernelIdeal.VQ.images m c) (Cert.KernelIdeal.VQ.table m c),
    fun c => Cert.KernelIdeal.VQ.loss (Cert.KernelIdeal.VQ.images m c) (Cert.KernelIdeal.VQ.table m c),
    Cert.KernelIdeal.VQ.run m g, (θ_run _ _ _).mono (fun r h c => ?_) (Cert.ReferenceIdeal.VQ.run m' g')⟩
  obtain ⟨ho, hl, h0, h1⟩ := h c
  obtain ⟨e0, e1⟩ := hargs c
  obtain ⟨hX, hE⟩ := Cert.Pre_finite.VQ.entries _ _ default (congrFun (hpre c) default)
  rw [e0, e1] at ho hl
  exact ⟨ho.trans (Cert.Equal.out_eq _ _).symm, hl.trans (Cert.Equal.loss_eq _ _ hX hE).symm, h0, h1⟩

/-- The first result is equal for every input. -/
theorem first_result : Cert.algebraic_KernelIdeal_ReferenceIdeal_on_quantized_only
    (hKernelIdeal := Cert.KernelIdeal.Gen.facts) (hReferenceIdeal := Cert.ReferenceIdeal.Gen.facts)
    (hOn_quantized_only := Cert.On_quantized_only.Gen.facts) := by
  intro m g m' g' _ hargs
  refine ⟨fun c => Cert.KernelIdeal.VQ.out (Cert.KernelIdeal.VQ.images m c) (Cert.KernelIdeal.VQ.table m c),
    fun c => Cert.KernelIdeal.VQ.loss (Cert.KernelIdeal.VQ.images m c) (Cert.KernelIdeal.VQ.table m c),
    (θ_run _ _ _).mono (fun r h c => ?_) (Cert.KernelIdeal.VQ.run m g),
    (θ_run _ _ _).mono (fun r h c => ?_) (Cert.ReferenceIdeal.VQ.run m' g')⟩
  · obtain ⟨ho, hl, h0, h1⟩ := h c
    exact ⟨fun i _ => congrFun ho i, fun i _ => congrFun hl i, h0, h1⟩
  · obtain ⟨ho, _, h0, h1⟩ := h c
    obtain ⟨e0, e1⟩ := hargs c
    rw [e0, e1] at ho
    refine ⟨fun i _ => congrFun (ho.trans (Cert.Equal.out_eq _ _).symm) i, fun i hi => ?_, h0, h1⟩
    exact absurd (show (0#1 : BitVec 1) = 1#1 from hi) (by decide)

end Cert.Proof

end
-- ==== Proof.lean ====
/-
  The assembly: every claim of `Cert.Claim`, in its order. The kernel's frames are its generated runs; the references'
  frames and the two value claims are proved in Proof/Claims.lean. The frames with a precondition follow from
  the frames without one.
-/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.Reference
public import proofs.«01_k».proof.Proof.Gen.ReferenceIdeal
public import proofs.«01_k».proof.Proof.Gen.Pre_finite
public import proofs.«01_k».proof.Proof.Gen.On_quantized_only
public import proofs.«01_k».proof.Proof.Claims
public import Idealize.ShloMosaic.Adequacy
public import Idealize.ShloMosaic.Init

@[expose] public section

noncomputable section

namespace Cert.Proof

open Idealize.ShloMosaic Idealize.SL.Sem Cert.Kernel

/-- The whole claim. -/
theorem claim : Cert.Claim :=
  ⟨Cert.Kernel.Gen.facts, Cert.KernelIdeal.Gen.facts, Cert.Reference.Gen.facts, Cert.ReferenceIdeal.Gen.facts,
    Cert.Pre_finite.Gen.facts, Cert.On_quantized_only.Gen.facts,
    fun m g _ => Cert.Kernel.Gen.frame m g,
    fun m g _ => Cert.KernelIdeal.Gen.frame m g,
    fun m g _ => Cert.KernelIdeal.Gen.frame m g,
    reference_frame,
    ideal_reference_frame,
    fun m g _ => ideal_reference_frame m g trivial,
    trivial,
    both_results,
    first_result⟩

end Cert.Proof

end
